-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S33 : Shape := ⟨1, ![33]⟩
abbrev S4096x4096x1 : Shape := ⟨3, ![4096, 4096, 1]⟩
abbrev S1x1x33 : Shape := ⟨3, ![1, 1, 33]⟩
abbrev S4096x4096x33 : Shape := ⟨3, ![4096, 4096, 33]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S33, .f32⟩
  | .hbm, ⟨2, _⟩ => ⟨S4096x4096x1, .f32⟩
  | .hbm, ⟨3, _⟩ => ⟨S1x1x33, .f32⟩
  | .hbm, ⟨4, _⟩ => ⟨S4096x4096x33, .f32⟩
  | .hbm, ⟨5, _⟩ => ⟨S4096x4096x33, .f32⟩
  | .hbm, ⟨6, _⟩ => ⟨S4096x4096x33, .i1⟩
  | .hbm, ⟨7, _⟩ => ⟨S4096x4096x33, .i32⟩
  | .hbm, ⟨8, _⟩ => ⟨S_, .i32⟩
  | .hbm, ⟨9, _⟩ => ⟨S4096x4096, .i32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Bucket.lean ====
/-
  The mathematics of one entry: over the extended reals, the bucket that the kernel computes from an
  entry by scaling, flooring and clipping is the number of boundaries at or below that entry.
-/
module

public import proofs.«01_k».proof.ReferenceIdeal
public import Idealize.ShloMosaic.PureOps.Ideal

@[expose] public section

noncomputable section

namespace Cert.Bucket

open Idealize.ShloMosaic

/-- The boundary with number `k`, as the reference's constant table spells it. -/
def boundary (k : Fin 33) : EReal := Ideal.ofBits .f32 (Cert.ReferenceIdeal.lit0 k)

/-- The boundaries are the quarters from -4 to 4: boundary `k` is `(k - 16) / 4`. -/
theorem boundary_eq (k : Fin 33) : boundary k = ((((k.val : ℤ) - 16 : ℤ) : ℝ) / 4 : ℝ) := by
  fin_cases k <;>
    · simp [boundary, Cert.ReferenceIdeal.lit0, Ideal.ofBits, Ideal.ieee, -EReal.coe_mul, -EReal.coe_neg,
        -EReal.coe_add, -EReal.coe_sub]
      try norm_num

/-- How many boundaries are at most `x`. -/
def count (x : EReal) : ℕ := (Finset.univ.filter fun k : Fin 33 => boundary k ≤ x).card

/-- The bucket number of `x` less 17, by the kernel's road: scale by 4, round down, clip. -/
def clipped (x : EReal) : EReal := min ((16 : ℝ) : EReal) (max ((-17 : ℝ) : EReal) (Ideal.liftRound Int.floor (x * ((4 : ℝ) : EReal))))

/-- If exactly the boundaries numbered below `c + 17` are at most `x`, the count is `c + 17`. -/
theorem count_of_le_iff (x : EReal) (c : ℤ) (hlo : -17 ≤ c) (hhi : c ≤ 16)
    (h : ∀ k : Fin 33, boundary k ≤ x ↔ (k.val : ℤ) < c + 17) : count x = (c + 17).toNat := by
  unfold count
  rw [Finset.filter_congr fun k _ => h k]
  interval_cases c <;> rfl

/-- A whole number in the clipping range converts to itself. -/
theorem fptosi_int (c : ℤ) (hlo : -17 ≤ c) (hhi : c ≤ 16) : Ideal.fptosi 32 (((c : ℝ) : EReal)) = BitVec.ofInt 32 c := by
  rw [Ideal.fptosi, Ideal.toIntClamped_coe, Int.floor_intCast, Int.ceil_intCast, ite_self]
  congr 1
  norm_num
  omega

/-- Every extended real has a whole number `c` in the clipping range that it is clipped to, and the
    boundaries at most it are those numbered below `c + 17`. -/
theorem exists_clip (x : EReal) : ∃ c : ℤ, -17 ≤ c ∧ c ≤ 16 ∧ clipped x = ((c : ℝ) : EReal) ∧
    ∀ k : Fin 33, boundary k ≤ x ↔ (k.val : ℤ) < c + 17 := by
  induction x using EReal.rec with
  | bot =>
    refine ⟨-17, le_refl _, by norm_num, ?_, fun k => ?_⟩
    · rw [clipped, EReal.bot_mul_coe_of_pos (by norm_num : (0 : ℝ) < 4), Ideal.liftRound_bot, max_eq_left bot_le,
        min_eq_right (EReal.coe_le_coe_iff.2 (by norm_num))]
      norm_num
    · rw [boundary_eq, le_bot_iff]
      exact ⟨fun h => absurd h (EReal.coe_ne_bot _), fun h => by omega⟩
  | top =>
    refine ⟨16, by norm_num, le_refl _, ?_, fun k => ?_⟩
    · rw [clipped, EReal.top_mul_coe_of_pos (by norm_num : (0 : ℝ) < 4), Ideal.liftRound_top, max_eq_right le_top,
        min_eq_left le_top]
      norm_num
    · exact ⟨fun _ => by have := k.isLt; omega, fun _ => le_top⟩
  | coe r =>
    refine ⟨min 16 (max (-17) ⌊r * 4⌋), by omega, by omega, ?_, fun k => ?_⟩
    · rw [clipped, ← EReal.coe_mul, Ideal.liftRound_coe, ← EReal.coe_strictMono.monotone.map_max,
        ← EReal.coe_strictMono.monotone.map_min]
      congr 1
      push_cast
      rfl
    · rw [boundary_eq, EReal.coe_le_coe_iff, div_le_iff₀ (by norm_num : (0 : ℝ) < 4), ← Int.le_floor]
      have := k.isLt
      omega

/-- The kernel's bucket number, a 32-bit word, is the number of boundaries at or below the entry. -/
theorem bucket_eq_count (x : EReal) : Ideal.fptosi 32 (clipped x) + 17#32 = BitVec.ofNat 32 (count x) := by
  obtain ⟨c, hlo, hhi, hc, hk⟩ := exists_clip x
  rw [hc, fptosi_int c hlo hhi, count_of_le_iff x c hlo hhi hk]
  interval_cases c <;> rfl

end Cert.Bucket

end
-- ==== Proof.Reference.lean ====
/-
  What the reference computes at one entry: its sum of comparisons is the count of the boundaries at
  or below the entry.
-/
module

public import proofs.«01_k».proof.Proof.Bucket
public import proofs.«01_k».proof.Proof.Gen.ReferenceIdeal.Run
public import Idealize.ShloMosaic.Lib.IndicatorCount

@[expose] public section

noncomputable section

namespace Cert.Bucket

open Idealize.ShloMosaic Cert.ReferenceIdeal Cert.ReferenceIdeal.Gen

/-- The array of comparisons, one for each entry and boundary, as one-bit words. -/
def compared (a : S4096x4096.Idx → EReal) : S4096x4096x33.Idx → BitVec 1 :=
  cmpf (F := Ideal) (φ := .f32) .ole
    (broadcastInDim S4096x4096x33 ![0, 1, 2] bcast_S1x1x33_S4096x4096x33_0_1_2
      (broadcastInDim S1x1x33 ![2] bcast_S33_S1x1x33_2 fun i => FloatOps.ofBits (F := Ideal) .f32 (lit0 (S33.rowMajor i))))
    (broadcastInDim S4096x4096x33 ![0, 1, 2] bcast_S4096x4096x1_S4096x4096x33_0_1_2
      (broadcastInDim S4096x4096x1 ![0, 1] bcast_S4096x4096_S4096x4096x1_0_1 a))

/-- The reduced axis is the last of three. -/
theorem reduces_last : S4096x4096x33.Reduces [2] S4096x4096 := by decide

/-- At entry `j` and boundary `k` the comparison asks whether the boundary is at most the entry. -/
theorem compared_apply (a : S4096x4096.Idx → EReal) (j : S4096x4096.Idx) (k : Fin 33) :
    compared a (reduces_last.lift j k) = BitVec.ofBool (decide (boundary k ≤ a j)) := by
  have hj : ∀ i : S4096x4096.Idx, (i 0).val = (j 0).val → (i 1).val = (j 1).val →
      BitVec.ofBool (decide (boundary k ≤ a i)) = BitVec.ofBool (decide (boundary k ≤ a j)) := by
    intro i h0 h1
    refine congrArg (fun i => BitVec.ofBool (decide (boundary k ≤ a i))) ?_
    funext b
    apply Fin.ext
    match b with
    | ⟨0, _⟩ => exact h0
    | ⟨1, _⟩ => exact h1
  have hk : ∀ i : S33.Idx, (i 0).val = k.val → Ideal.ofBits .f32 (lit0 (S33.rowMajor i)) = boundary k := by
    intro i h
    have e : S33.rowMajor i = (k : Fin 33) := Fin.ext ((Shape.rowMajor_val_one i).trans h)
    rw [e]
    rfl
  show BitVec.ofBool (decide (Ideal.ofBits .f32 (lit0 (S33.rowMajor _)) ≤ a _)) = _
  rw [hk _ rfl]
  exact hj _ rfl rfl

/-- The reference's result at entry `j` is the count of the boundaries at most that entry. -/
theorem reference_apply (a : S4096x4096.Idx → EReal) (j : S4096x4096.Idx) :
    Host.reduce IntOp.addi (extui 32 (compared a) natLt_1_32) (constantI S_ 32 0#32)
      reducesTo_S4096x4096x33_S4096x4096_d2 h_S_ j = BitVec.ofNat 32 (count (a j)) := by
  rw [Host.reduce_eq_fold_single IntOp.addi _ _ _ reduces_last]
  refine (IndicatorCount.fold_addi_setWidth_eq_card (fun k : Fin 33 => compared a (reduces_last.lift j k)) Finset.univ).trans ?_
  unfold count
  congr 2
  refine Finset.filter_congr fun k _ => ?_
  rw [compared_apply]
  by_cases h : boundary k ≤ a j <;> simp [h]

end Cert.Bucket

end
-- ==== Proof.Equation.lean ====
/-
  The kernel's array and the reference's array are one array.
-/
module

public import proofs.«01_k».proof.Proof.Reference
public import proofs.«01_k».proof.Proof.Gen.KernelIdeal.Value

@[expose] public section

noncomputable section

namespace Cert.Bucket

open Idealize.ShloMosaic

/-- The three constants of the kernel's body denote 16, -17 and 4. -/
theorem constants : Ideal.ofBits .f32 0x41800000#32 = ((16 : ℝ) : EReal) ∧ Ideal.ofBits .f32 0xC1880000#32 = ((-17 : ℝ) : EReal)
    ∧ Ideal.ofBits .f32 0x40800000#32 = ((4 : ℝ) : EReal) := by
  refine ⟨?_, ?_, ?_⟩ <;> simp [Ideal.ofBits, Ideal.ieee, -EReal.coe_mul, -EReal.coe_neg] <;> norm_num

/-- The kernel's result at entry `j` is the count of the boundaries at most that entry. -/
theorem kernel_apply (a : Cert.KernelIdeal.S4096x4096.Idx → EReal) (j : Cert.KernelIdeal.S4096x4096.Idx) :
    Cert.KernelIdeal.Value.G1 (F := Ideal) a j = BitVec.ofNat 32 (count (a j)) := by
  obtain ⟨h16, h17, h4⟩ := constants
  rw [← bucket_eq_count, clipped, ← h16, ← h17, ← h4]
  rfl

/-- The reference's whole array is the kernel's. -/
theorem reference_eq_kernel (a : Cert.ReferenceIdeal.S4096x4096.Idx → EReal) :
    Host.reduce IntOp.addi (extui 32 (compared a) Cert.ReferenceIdeal.Gen.natLt_1_32)
      (constantI Cert.ReferenceIdeal.S_ 32 0#32) Cert.ReferenceIdeal.Gen.reducesTo_S4096x4096x33_S4096x4096_d2
      Cert.ReferenceIdeal.Gen.h_S_ = Cert.KernelIdeal.Value.G1 (F := Ideal) a :=
  funext fun j => (reference_apply a j).trans (kernel_apply a j).symm

end Cert.Bucket

end
-- ==== Proof.lean ====
/-
  The claims, assembled: the three frames, the idealization, and the equation of kernel and reference.

  The frames of the two kernel programs and the runs of kernel and reference are generated. The equation
  of the two result arrays is `Cert.Bucket.reference_eq_kernel` (Proof/Equation.lean).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference terminates without fault, keeps its argument and ends with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results over the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, hagree c]
  exact Cert.Bucket.reference_eq_kernel _

/-- Everything that the certificate states. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
